-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_w_finite [hPre_w_finite : Cert.Pre_w_finite.Facts] (m : (ℓ : Loc Cert.KernelIdeal.nD Cert.KernelIdeal.τ Cert.KernelIdeal.sig) → Buf (Elt Ideal) ℓ) : Prop :=
  ∀ c : Dev Cert.KernelIdeal.nD,
    (Cert.Pre_w_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_w_finite [hPre_w_finite : Cert.Pre_w_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_w_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_w_finite [hKernelIdeal : Cert.KernelIdeal.Facts] [hPre_w_finite : Cert.Pre_w_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_w_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_w_finite [hReferenceIdeal : Cert.ReferenceIdeal.Facts] [hPre_w_finite : Cert.Pre_w_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_w_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_w_finite [hKernelIdeal : Cert.KernelIdeal.Facts] [hReferenceIdeal : Cert.ReferenceIdeal.Facts] [hPre_w_finite : Cert.Pre_w_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_w_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_w_finite : Cert.Pre_w_finite.Facts),
    quiescent_Kernel (hKernel := hKernel)
    ∧ quiescent_KernelIdeal (hKernelIdeal := hKernelIdeal)
    ∧ quiescent_KernelIdeal_pre_w_finite (hKernelIdeal := hKernelIdeal) (hPre_w_finite := hPre_w_finite)
    ∧ quiescent_ReferenceIdeal (hReferenceIdeal := hReferenceIdeal)
    ∧ quiescent_ReferenceIdeal_pre_w_finite (hReferenceIdeal := hReferenceIdeal) (hPre_w_finite := hPre_w_finite)
    ∧ preserves_Kernel_KernelIdeal
    ∧ algebraic_KernelIdeal_ReferenceIdeal_pre_w_finite (hKernelIdeal := hKernelIdeal) (hReferenceIdeal := hReferenceIdeal) (hPre_w_finite := hPre_w_finite)
-- ==== Pre_w_finite.lean ====
abbrev S16384x100 : Shape := ⟨2, ![16384, 100]⟩
abbrev S100x64 : Shape := ⟨2, ![100, 64]⟩
abbrev S64x1 : Shape := ⟨2, ![64, 1]⟩
abbrev S64 : Shape := ⟨1, ![64]⟩
abbrev S_ : Shape := ⟨0, ![]⟩

class Facts : Prop where
  bcast_S_S64x1 : S_.BroadcastsInDim S64x1 (![] : Fin 0 → Fin S64x1.rank)

variable [Facts]

def fn {F : FTy → Type} [FloatOps F] (main_arg0 : FVec F S16384x100 .f32) (main_arg1 : FVec F S100x64 .f32) (main_arg2 : FVec F S64x1 .f32) (main_arg3 : FVec F S64 .f32) : IVec S64x1 1 :=
  let main_v0 : FVec F S64x1 .f32 := Host.absf main_arg2
  let main_cst : FVec F S_ .f32 := constant S_ .f32 0x7F800000#32
  let main_v1 : FVec F S64x1 .f32 := broadcastInDim S64x1 ![] bcast_S_S64x1 main_cst
  let main_v2 : IVec S64x1 1 := cmpf .olt main_v0 main_v1
  main_v2
-- ==== Kernel.lean ====
abbrev S16384x100 : Shape := ⟨2, ![16384, 100]⟩
abbrev S100x64 : Shape := ⟨2, ![100, 64]⟩
abbrev S64x1 : Shape := ⟨2, ![64, 1]⟩
abbrev S64 : Shape := ⟨1, ![64]⟩
abbrev S100x16384 : Shape := ⟨2, ![100, 16384]⟩
abbrev S50x2x64 : Shape := ⟨3, ![50, 2, 64]⟩
abbrev S1x1x64 : Shape := ⟨3, ![1, 1, 64]⟩
abbrev S_ : Shape := ⟨0, ![]⟩
abbrev S50x1x2x64 : Shape := ⟨4, ![50, 1, 2, 64]⟩
abbrev S50x3x2x64 : Shape := ⟨4, ![50, 3, 2, 64]⟩
abbrev S6400x16384 : Shape := ⟨2, ![6400, 16384]⟩
abbrev S1x3x2x64 : Shape := ⟨4, ![1, 3, 2, 64]⟩
abbrev S8x16384 : Shape := ⟨2, ![8, 16384]⟩
abbrev S128x16384 : Shape := ⟨2, ![128, 16384]⟩
abbrev S3x128 : Shape := ⟨2, ![3, 128]⟩
abbrev S1x16384 : Shape := ⟨2, ![1, 16384]⟩
abbrev S2x16384 : Shape := ⟨2, ![2, 16384]⟩
abbrev S3x16384 : Shape := ⟨2, ![3, 16384]⟩
abbrev S100x64x16384 : Shape := ⟨3, ![100, 64, 16384]⟩
abbrev S16384x100x64 : Shape := ⟨3, ![16384, 100, 64]⟩

abbrev nBuf : Space → Nat
  | .hbm => 28
  | .vmem => 6
  | .smem => 0
  | _ => 0

abbrev bufTy : (tb : Table) → Fin (tcTables nBuf tb) → BufTy
  | .hbm, ⟨0, _⟩ => ⟨S16384x100, .f32⟩
  | .hbm, ⟨1, _⟩ => ⟨S100x64, .f32⟩
  | .hbm, ⟨2, _⟩ => ⟨S64x1, .f32⟩
  | .hbm, ⟨3, _⟩ => ⟨S64, .f32⟩
  | .hbm, ⟨4, _⟩ => ⟨S100x16384, .f32⟩
  | .hbm, ⟨5, _⟩ => ⟨S50x2x64, .f32⟩
  | .hbm, ⟨6, _⟩ => ⟨S50x2x64, .i32⟩
  | .hbm, ⟨7, _⟩ => ⟨S1x1x64, .f32⟩
  | .hbm, ⟨8, _⟩ => ⟨S50x2x64, .f32⟩
  | .hbm, ⟨9, _⟩ => ⟨S_, .i32⟩
  | .hbm, ⟨10, _⟩ => ⟨S50x2x64, .i32⟩
  | .hbm, ⟨11, _⟩ => ⟨S50x2x64, .i1⟩
  | .hbm, ⟨12, _⟩ => ⟨S_, .f32⟩
  | .hbm, ⟨13, _⟩ => ⟨S_, .f32⟩
  | .hbm, ⟨14, _⟩ => ⟨S50x2x64, .f32⟩
  | .hbm, ⟨15, _⟩ => ⟨S50x2x64, .f32⟩
  | .hbm, ⟨16, _⟩ => ⟨S50x2x64, .f32⟩
  | .hbm, ⟨17, _⟩ => ⟨S1x1x64, .f32⟩
  | .hbm, ⟨18, _⟩ => ⟨S50x2x64, .f32⟩
  | .hbm, ⟨19, _⟩ => ⟨S50x2x64, .f32⟩
  | .hbm, ⟨20, _⟩ => ⟨S50x1x2x64, .f32⟩
  | .hbm, ⟨21, _⟩ => ⟨S50x1x2x64, .f32⟩
  | .hbm, ⟨22, _⟩ => ⟨S50x1x2x64, .f32⟩
  | .hbm, ⟨23, _⟩ => ⟨S50x3x2x64, .f32⟩
  | .hbm, ⟨24, _⟩ => ⟨S50x3x2x64, .bf16⟩
  | .hbm, ⟨25, _⟩ => ⟨S6400x16384, .f32⟩
  | .hbm, ⟨26, _⟩ => ⟨S100x64x16384, .f32⟩
  | .hbm, ⟨27, _⟩ => ⟨S16384x100x64, .f32⟩
  | .local _ .vmem, ⟨0, _⟩ => ⟨S1x3x2x64, .bf16⟩
  | .local _ .vmem, ⟨1, _⟩ => ⟨S1x3x2x64, .bf16⟩
  | .local _ .vmem, ⟨2, _⟩ => ⟨S8x16384, .f32⟩
  | .local _ .vmem, ⟨3, _⟩ => ⟨S8x16384, .f32⟩
  | .local _ .vmem, ⟨4, _⟩ => ⟨S128x16384, .f32⟩
  | .local _ .vmem, ⟨5, _⟩ => ⟨S128x16384, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c4_i32 : BitVec 32 := 4#32
  let c0_i32 : BitVec 32 := 0#32
  let v6 : BitVec 1 := Scalar.cmpi .eq c4_i32 c0_i32
  let c1_i32 : BitVec 32 := 1#32
  let v7 : BitVec 32 := Scalar.select v6 c1_i32 c4_i32
  let v8 : BitVec 32 := Scalar.remsi arg0 v7
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let c0_i32_5 : BitVec 32 := 0#32
  let v9 : BitVec 1 := Scalar.cmpi .ne v8 c0_i32_5
  let v13 : BitVec 1 := Scalar.andi v12 v9
  let v14 : BitVec 32 := Scalar.addi v8 v7
  let v15 : BitVec 32 := Scalar.select v13 v14 v8
  let c0_i32_8 : BitVec 32 := 0#32
  let v16 : BitVec 1 := Scalar.cmpi .eq v15 c0_i32_8
  let v17 : BitVec 32 := Scalar.extui v16
  let c0_i32_9 : BitVec 32 := 0#32
  let v18 : BitVec 1 := Scalar.cmpi .ne v17 c0_i32_9
  v18

def k0_cond2 (i : grid0.Coords) : BitVec 1 :=
  let arg0 : BitVec 32 := BitVec.ofNat 32 (i 0).val
  let c4_i32 : BitVec 32 := 4#32
  let c0_i32 : BitVec 32 := 0#32
  let v6 : BitVec 1 := Scalar.cmpi .eq c4_i32 c0_i32
  let c1_i32 : BitVec 32 := 1#32
  let v7 : BitVec 32 := Scalar.select v6 c1_i32 c4_i32
  let v8 : BitVec 32 := Scalar.remsi arg0 v7
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let c0_i32_5 : BitVec 32 := 0#32
  let v9 : BitVec 1 := Scalar.cmpi .ne v8 c0_i32_5
  let v13 : BitVec 1 := Scalar.andi v12 v9
  let v14 : BitVec 32 := Scalar.addi v8 v7
  let v15 : BitVec 32 := Scalar.select v13 v14 v8
  let c1_i32_10 : BitVec 32 := 1#32
  let v19 : BitVec 1 := Scalar.cmpi .eq v15 c1_i32_10
  let v20 : BitVec 32 := Scalar.extui v19
  let c0_i32_11 : BitVec 32 := 0#32
  let v21 : BitVec 1 := Scalar.cmpi .ne v20 c0_i32_11
  v21

def k0_cond3 (i : grid0.Coords) : BitVec 1 :=
  let arg0 : BitVec 32 := BitVec.ofNat 32 (i 0).val
  let c4_i32 : BitVec 32 := 4#32
  let c0_i32 : BitVec 32 := 0#32
  let v6 : BitVec 1 := Scalar.cmpi .eq c4_i32 c0_i32
  let c1_i32 : BitVec 32 := 1#32
  let v7 : BitVec 32 := Scalar.select v6 c1_i32 c4_i32
  let v8 : BitVec 32 := Scalar.remsi arg0 v7
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let c0_i32_5 : BitVec 32 := 0#32
  let v9 : BitVec 1 := Scalar.cmpi .ne v8 c0_i32_5
  let v13 : BitVec 1 := Scalar.andi v12 v9
  let v14 : BitVec 32 := Scalar.addi v8 v7
  let v15 : BitVec 32 := Scalar.select v13 v14 v8
  let c2_i32 : BitVec 32 := 2#32
  let v22 : BitVec 1 := Scalar.cmpi .eq v15 c2_i32
  let v23 : BitVec 32 := Scalar.extui v22
  let c0_i32_12 : BitVec 32 := 0#32
  let v24 : BitVec 1 := Scalar.cmpi .ne v23 c0_i32_12
  v24

def k0_cond4 (i : grid0.Coords) : BitVec 1 :=
  let arg0 : BitVec 32 := BitVec.ofNat 32 (i 0).val
  let c4_i32 : BitVec 32 := 4#32
  let c0_i32 : BitVec 32 := 0#32
  let v6 : BitVec 1 := Scalar.cmpi .eq c4_i32 c0_i32
  let c1_i32 : BitVec 32 := 1#32
  let v7 : BitVec 32 := Scalar.select v6 c1_i32 c4_i32
  let v8 : BitVec 32 := Scalar.remsi arg0 v7
  let c0_i32_6 : BitVec 32 := 0#32
  let v10 : BitVec 1 := Scalar.cmpi .slt v8 c0_i32_6
  let c0_i32_7 : BitVec 32 := 0#32
  let v11 : BitVec 1 := Scalar.cmpi .slt v7 c0_i32_7
  let v12 : BitVec 1 := Scalar.xori v10 v11
  let c0_i32_5 : BitVec 32 := 0#32
  let v9 : BitVec 1 := Scalar.cmpi .ne v8 c0_i32_5
  let v13 : BitVec 1 := Scalar.andi v12 v9
  let v14 : BitVec 32 := Scalar.addi v8 v7
  let v15 : BitVec 32 := Scalar.select v13 v14 v8
  let c3_i32 : BitVec 32 := 3#32
  let v25 : BitVec 1 := Scalar.cmpi .eq v15 c3_i32
  let v26 : BitVec 32 := Scalar.extui v25
  let c0_i32_13 : BitVec 32 := 0#32
  let v27 : BitVec 1 := Scalar.cmpi .ne v26 c0_i32_13
  v27

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x3x2x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S16384x100 : Shape := ⟨2, ![16384, 100]⟩
abbrev S100x64 : Shape := ⟨2, ![100, 64]⟩
abbrev S64x1 : Shape := ⟨2, ![64, 1]⟩
abbrev S64 : Shape := ⟨1, ![64]⟩
abbrev S100 : Shape := ⟨1, ![100]⟩
abbrev S_ : Shape := ⟨0, ![]⟩
abbrev S100x1 : Shape := ⟨2, ![100, 1]⟩
abbrev S1 : Shape := ⟨1, ![1]⟩
abbrev S1x1 : Shape := ⟨2, ![1, 1]⟩
abbrev S1x100x64 : Shape := ⟨3, ![1, 100, 64]⟩
abbrev S16384x100x64 : Shape := ⟨3, ![16384, 100, 64]⟩
abbrev S16384x100x1 : Shape := ⟨3, ![16384, 100, 1]⟩
abbrev S1x64 : Shape := ⟨2, ![1, 64]⟩
abbrev S1x1x64 : Shape := ⟨3, ![1, 1, 64]⟩

abbrev nBuf : Space → Nat
  | .hbm => 37
  | .vmem => 0
  | .smem => 0
  | _ => 0

abbrev bufTy : (tb : Table) → Fin (tcTables nBuf tb) → BufTy
  | .hbm, ⟨0, _⟩ => ⟨S16384x100, .f32⟩
  | .hbm, ⟨1, _⟩ => ⟨S100x64, .f32⟩
  | .hbm, ⟨2, _⟩ => ⟨S64x1, .f32⟩
  | .hbm, ⟨3, _⟩ => ⟨S64, .f32⟩
  | .hbm, ⟨4, _⟩ => ⟨S100, .i32⟩
  | .hbm, ⟨5, _⟩ => ⟨S_, .i32⟩
  | .hbm, ⟨6, _⟩ => ⟨S100, .i32⟩
  | .hbm, ⟨7, _⟩ => ⟨S100, .i1⟩
  | .hbm, ⟨8, _⟩ => ⟨S_, .i32⟩
  | .hbm, ⟨9, _⟩ => ⟨S100, .i32⟩
  | .hbm, ⟨10, _⟩ => ⟨S100, .i32⟩
  | .hbm, ⟨11, _⟩ => ⟨S100, .i32⟩
  | .hbm, ⟨12, _⟩ => ⟨S100x1, .i32⟩
  | .hbm, ⟨13, _⟩ => ⟨S1, .i32⟩
  | .hbm, ⟨14, _⟩ => ⟨S_, .i32⟩
  | .hbm, ⟨15, _⟩ => ⟨S100x1, .i32⟩
  | .hbm, ⟨16, _⟩ => ⟨S100x1, .i1⟩
  | .hbm, ⟨17, _⟩ => ⟨S1x1, .i32⟩
  | .hbm, ⟨18, _⟩ => ⟨S100x1, .i32⟩
  | .hbm, ⟨19, _⟩ => ⟨S100x1, .i1⟩
  | .hbm, ⟨20, _⟩ => ⟨S100x1, .i1⟩
  | .hbm, ⟨21, _⟩ => ⟨S_, .i1⟩
  | .hbm, ⟨22, _⟩ => ⟨S100, .i1⟩
  | .hbm, ⟨23, _⟩ => ⟨S100x64, .f32⟩
  | .hbm, ⟨24, _⟩ => ⟨S100x64, .i1⟩
  | .hbm, ⟨25, _⟩ => ⟨S_, .f32⟩
  | .hbm, ⟨26, _⟩ => ⟨S100x64, .f32⟩
  | .hbm, ⟨27, _⟩ => ⟨S100x64, .f32⟩
  | .hbm, ⟨28, _⟩ => ⟨S1x100x64, .f32⟩
  | .hbm, ⟨29, _⟩ => ⟨S16384x100x64, .f32⟩
  | .hbm, ⟨30, _⟩ => ⟨S16384x100x1, .f32⟩
  | .hbm, ⟨31, _⟩ => ⟨S1x64, .f32⟩
  | .hbm, ⟨32, _⟩ => ⟨S16384x100x64, .f32⟩
  | .hbm, ⟨33, _⟩ => ⟨S1x1x64, .f32⟩
  | .hbm, ⟨34, _⟩ => ⟨S16384x100x64, .f32⟩
  | .hbm, ⟨35, _⟩ => ⟨S16384x100x64, .f32⟩
  | .hbm, ⟨36, _⟩ => ⟨S16384x100x64, .f32⟩
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩

abbrev nD : Nat := 1
abbrev τ : Topo := Topo.v7x

variable {F : FTy → Type} [FloatOps F]
-- ==== Proof.Ideal.Point.lean ====
/-
  What the kernel body leaves at one grid point, for any float values. The grid has 50 points; point `t` takes the rows
  `2 (t mod 4)` and `2 (t mod 4) + 1` of its staged block of the transposed input, which the four printed conditions
  select. The block of the last two points overhangs the array (rows 100 to 103 do not exist), but the rows taken there
  are 96 to 99: what the staging buffer holds past the array's end is never read into the result.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Point

open Cert.KernelIdeal Cert.KernelIdeal.Gen Idealize.ShloMosaic

variable {F : FTy → Type} [FloatOps F]

/-- The row pair that grid coordinates `i` select: their remainder modulo four. -/
abbrev pair (i : grid0.Coords) : Nat := (i 0).val % 4

/-- The printed conditions at a coordinate say which of the four row pairs it selects. -/
theorem conds : ∀ i : grid0.Coords,
    ((k0_cond1 i = 1#1 ↔ pair i = 0) ∧ (k0_cond2 i = 1#1 ↔ pair i = 1))
      ∧ (k0_cond3 i = 1#1 ↔ pair i = 2) ∧ (k0_cond4 i = 1#1 ↔ pair i = 3) := by
  decide +kernel

/-- What the body stores at coordinates `i`, from the staged input block `x` and the staged table block `mt`: the
    payload of the branch taken there. -/
def stored (i : grid0.Coords) (x : Vec F S8x16384 .f32) (mt : Vec F S1x3x2x64 .bf16) : FVec F S128x16384 .f32 :=
  if pair i = 0 then k0_pay4 x mt else if pair i = 1 then k0_pay5 x mt else if pair i = 2 then k0_pay6 x mt else k0_pay7 x mt

/-- Two rows of a block taken from row `o` on agree when the blocks agree on those rows. -/
theorem slice_congr (o : Nat) (h : S8x16384.Slices ![o, 0] S2x16384) (x y : Vec F S8x16384 .f32)
    (hxy : ∀ j : S8x16384.Idx, o ≤ (j 0).val → (j 0).val < o + 2 → x j = y j) :
    extractStridedSlice S2x16384 ![o, 0] (k0_pay1 x) h = extractStridedSlice S2x16384 ![o, 0] (k0_pay1 y) h := by
  unfold k0_pay1
  simp only [shapeCast_self]
  funext j
  unfold extractStridedSlice
  apply hxy
  · exact Nat.le_add_right _ _
  · exact Nat.add_lt_add_left (j 0).isLt o

/-- What is stored depends on the selected two rows of the input block only. -/
theorem stored_congr (i : grid0.Coords) (x y : Vec F S8x16384 .f32) (mt : Vec F S1x3x2x64 .bf16)
    (hxy : ∀ j : S8x16384.Idx, 2 * pair i ≤ (j 0).val → (j 0).val < 2 * pair i + 2 → x j = y j) :
    stored i x mt = stored i y mt := by
  unfold stored
  split
  · next h => unfold k0_pay4; rw [slice_congr 0 _ x y (by rw [h] at hxy; exact hxy)]
  split
  · next h => unfold k0_pay5; rw [slice_congr 2 _ x y (by rw [h] at hxy; exact hxy)]
  split
  · next h => unfold k0_pay6; rw [slice_congr 4 _ x y (by rw [h] at hxy; exact hxy)]
  · next h0 h1 h2 =>
    have h : pair i = 3 := by have : pair i < 4 := Nat.mod_lt _ (by decide); omega
    unfold k0_pay7; rw [slice_congr 6 _ x y (by rw [h] at hxy; exact hxy)]

/-- The selected two rows lie in the part of the block that the array has. -/
theorem rows_inside : ∀ i : grid0.Coords, 2 * pair i + 2 ≤ win0_1.xsize i 0 := by
  decide +kernel

/-- A block is never cut along the batch axis. -/
theorem lanes_whole : ∀ i : grid0.Coords, win0_1.xsize i 1 = 16384 := by
  decide +kernel

/-- So what is stored does not depend on what the staging buffer holds past the array's end. -/
theorem stored_fill (i : grid0.Coords) (d d' : S8x16384.Idx → Elt F .f32) (g : (win0_1.xblock i).Idx → Elt F .f32)
    (mt : Vec F S1x3x2x64 .bf16) : stored i (win0_1.fill i d g) mt = stored i (win0_1.fill i d' g) mt := by
  refine stored_congr i _ _ mt fun j _ h2 => ?_
  have hm : win0_1.moved i j = true := by
    refine (win0_1.moved_iff i j).mpr fun a => ?_
    match a with
    | ⟨0, _⟩ => exact lt_of_lt_of_le h2 (rows_inside i)
    | ⟨1, _⟩ => exact lt_of_lt_of_eq (j 1).isLt (lanes_whole i).symm
  unfold Pipeline.Window.fill
  rw [dif_pos hm, dif_pos hm]

end Cert.KernelIdeal.Point

end
-- ==== Proof.Ideal.Body.lean ====
/-
  The kernel body's triple and the proof data of its pipeline, for any float values: what each staging buffer holds
  before and after the body at a grid point, and the library's body obligation. The input window whose last block
  overhangs its array is loose: it is stated on the rows the array has only, and what is stored does not depend on the
  other rows (`Point.stored_fill`).
-/
module

public import proofs.«01_k».proof.Proof.Ideal.Point

@[expose] public section

set_option maxRecDepth 16384

noncomputable section

namespace Cert.KernelIdeal.Body

open Cert.KernelIdeal Cert.KernelIdeal.Gen Cert.KernelIdeal.Point

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- Offsets that are zero on both axes. -/
theorem off2 : (![0, 0] : Fin 2 → Nat) = fun _ => 0 := by decide
/-- Offsets that are zero on all four axes. -/
theorem off4 : (![0, 0, 0, 0] : Fin 4 → Nat) = fun _ => 0 := by decide

/-- A view that one store through the whole of it was written to reads what was stored. -/
theorem read_store (a : Memref sig .tc .vmem S128x16384 .f32) (f : a.view.ty.Contents (Elt F)) (w : S128x16384.Idx → Elt F .f32) :
    a.view.read (Elt F) (a.view.writes (Elt F) f
      [⟨Rect.unit (s := S128x16384) ![0, 0] S128x16384.size inb_S128x16384_S128x16384_0_0, w⟩]) = w :=
  (View.read_writes_eq_canon _ _ _ fun y => ⟨_, List.mem_singleton_self _,
    View.mem_set_unit_zero off2 inb_S128x16384_S128x16384_0_0 y⟩).trans (View.canon_unit_zero off2 _ w)

/-- The body at coordinates `i`, on whole buffers holding a table block `mt` and an input block `x`: it leaves those
    as they are and the output buffer, whatever it held, at `stored i x mt`. -/
theorem triple (c : Dev nD) (E : Set ℕ) (i : grid0.Coords)
    (a1 : Memref sig .tc .vmem S1x3x2x64 .bf16) (h1 : a1.IsWhole) (a2 : Memref sig .tc .vmem S8x16384 .f32) (h2 : a2.IsWhole)
    (a3 : Memref sig .tc .vmem S128x16384 .f32) (h3 : a3.IsWhole)
    (mt : Vec F S1x3x2x64 .bf16) (x : Vec F S8x16384 .f32) (K : PUnit → sProp 𝕄) :
    iprop(owns (c : Thread nD τ) a1 fullShare mt ∗ owns (c : Thread nD τ) a2 fullShare x
        ∗ (∃ d, owns (c : Thread nD τ) a3 fullShare d)
        ∗ (iprop(owns (c : Thread nD τ) a1 fullShare mt ∗ owns (c : Thread nD τ) a2 fullShare x
              ∗ owns (c : Thread nD τ) a3 fullShare (stored i x mt)) -∗ K ⟨⟩))
      ⊢ wp frame (wpE (defs₀ (F := F)) Variants.none c none) E (cc0__fe_kernel i a1 h1 a2 h2 a3 h3) K := by
  obtain ⟨⟨c1, c2⟩, c3, c4⟩ := conds i
  have hlt : pair i < 4 := Nat.mod_lt _ (by decide)
  simp only [cc0__fe_kernel_eq_skeleton]
  unfold cc0__fe_kernel_skel stored
  simp only [c1, c2, c3, c4]
  obtain h | h | h | h : pair i = 0 ∨ pair i = 1 ∨ pair i = 2 ∨ pair i = 3 := by omega
  all_goals
    simp only [h, Nat.reduceEqDiff, dite_true, dite_false, if_true, if_false]
    unfold owns
    iintro ⟨⟨%f1, %hf1, H1⟩, ⟨%f2, %hf2, H2⟩, ⟨%d3, %f3, -, H3⟩, Hk⟩
    subst hf1 hf2
    sl_exec
    sl_step
    iapply Hk
    isplitl [H1]
    · iexists f1; isplitr; · ipureintro; rfl
      iexact H1
    isplitl [H2]
    · iexists f2; isplitr; · ipureintro; rfl
      iexact H2
    · iexists _; isplitr; swap; · iexact H3
      ipureintro
      refine (read_store a3 f3 _).trans ?_
      exact congrArg₂ _ (View.ld_unit_zero off2 _ _) (View.ld_unit_zero off4 _ _)

/-! ## The proof data -/

variable (m : (ℓ : Loc nD τ sig) → Buf (Elt F) ℓ) (ρ : Dev nD → PrngReg)

/-- The input block of point `t` as a whole block of eight rows: its rows inside the array, and a fixed word on the
    rows past the array's end. -/
def xrows (c : Dev nD) (t : Fin cfg0.N) : S8x16384.Idx → Elt F .f32 :=
  win0_1.fill (grid0.coords t) (fun _ => Scalar.ofBits .f32 0#32) (iblk m c 1 t)

/-- What the output block of point `t` ends holding. -/
def outBlk (c : Dev nD) (t : Fin cfg0.N) : S128x16384.Idx → Elt F .f32 :=
  stored (grid0.coords t) (xrows m c t) (iblk m c 0 t)

/-- The proof data on device `c`: the arrays as the region finds them; after the body at point `t` the table's buffer
    at its block, the input's at its block filled out, the output's at `outBlk`; full shares and nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => xrows m c t
    | ⟨2, _⟩ => outBlk m c t
  Φ _ := Pipeline.ΦA spec0 c
  q _ := fullShare
  owed _ := 0

/-- The table's buffer arrives at its block. -/
theorem before_table (c : Dev nD) (t : Fin cfg0.N) (d) : (dats m 0 c).before 0 t d = iblk m c 0 t :=
  before0_0_of m (dats m 0 c) rfl (fun _ => rfl) t d

/-- Two points on the same input block have it cut alike. -/
theorem clip_congr (t t' : Fin cfg0.N) (h : (cfg0.win 1).index t = (cfg0.win 1).index t') :
    (cfg0.win 1).clip (cfg0.grid.coords t) = (cfg0.win 1).clip (cfg0.grid.coords t') := by
  funext a
  exact congrArg (fun n => Pipeline.Clip.of n (win0_1.size a) (win0_1.shape.size a)) (congrFun h a)

/-- The input's buffer arrives at its block, with anything on the rows past the array's end — also at the three points
    of four where it is not fetched again. -/
theorem before_input (c : Dev nD) (t : Fin cfg0.N) (d) :
    (dats m 0 c).before 1 t d = win0_1.fill (grid0.coords t) d (iblk m c 1 t) :=
  (dats m 0 c).before_in_eq_fetched 1 rfl (fun _ => rfl) clip_congr (fun t => win0_1.cut_fill _ _ _) t d

/-- No point leaves the output alone: one of the four conditions holds. -/
theorem never_idle (i : grid0.Coords) : cfg0.idle 2 i = false := by
  revert i; decide +kernel

/-- The body that the pipeline calls at point `t` is the printed kernel on the point's staging buffers. -/
theorem defs₀_row (t : Fin cfg0.N) : defs₀ (F := F) .tc cfg0.body (cfg0.bodyArgs t (cfg0.slots t)) = bodyAt0 t := by
  unfold defs₀; rw [Defs.onTc_tc]

/-- The body obligation: from the staging buffers as they arrive, to the proof data's contents after the body. -/
theorem obligation (c : Dev nD) : BodyObligationLoose (dats m 0 c) (defs₀ (F := F)) Variants.none () Set.univ := fun t => by
  rw [bigSep_W0, bigSep_W0]
  rw [show cfg0.idle 2 (cfg0.grid.coords t) = false from never_idle _]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_table m c t d0, before_input m c t d1]
  rw [defs₀_row]
  iapply (triple c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    change _ ⊢ owns (c : Thread nD τ) (stage0_1 (cfg0.slots t 1)) fullShare
      (win0_1.fill (grid0.coords t) d1 (win0_1.cut (grid0.coords t) (xrows m c t)))
    rw [show win0_1.cut (grid0.coords t) (xrows m c t) = iblk m c 1 t from win0_1.cut_fill _ _ _]
    try iexact H1
  · change _ ⊢ owns (c : Thread nD τ) (stage0_2 (cfg0.slots t 2)) fullShare (outBlk m c t)
    rw [show outBlk m c t = stored (grid0.coords t) (win0_1.fill (grid0.coords t) d1 (iblk m c 1 t)) (iblk m c 0 t)
      from stored_fill _ _ _ _ _]
    try iexact H2

/-! ## The run -/

-- the launch theorem's implicit arguments are found by unifying its conclusion with the statement, which unfolds plain
-- definitions in the types of what it finds
set_option backward.isDefEq.respectTransparency.types false in
/-- Every weakly fair execution of @main from any memory with zero counters terminates, with every array of the
    pipeline and every other buffer at what the library computes from the proof data, and every counter at zero. -/
theorem run : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (obligation m) (fun c => (dats m 0 c).share_full fun _ => rfl) (fun _ _ => rfl) (V0 m) [hostOps1]
    sfx_sub sfx_fresh sfx_keeps (hmain m _) (fun _ _ => rfl) (fun _ _ => rfl)
    (Q' := fun r => Pipeline.FramePost cfgs (dats m) 0 (Pipeline.afterTail₀ cfgs (dats m) 0 (V0 m) [hostOps1]) r
      ∧ r.2.sem = fun _ => 0) (fun _ h => h)

/-- The four argument arrays end as they were launched: no block is written back to them and no host line writes them. -/
theorem args_kept (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩

/-- The program runs, leaves its arguments as they were and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m r h.1, h.2⟩) (run m ρ)

end Cert.KernelIdeal.Body

end
-- ==== Proof.Transfer.lean ====
/-
  The program as printed and the program of the idealised claims are one text: no operation was rewritten. So what is
  proved of the second for any float values is proved of the first.
-/
module

public import proofs.«01_k».proof.Proof.Gen.Kernel
public import proofs.«01_k».proof.Proof.Ideal.Body

@[expose] public section

set_option maxRecDepth 16384

noncomputable section

namespace Cert.Kernel

open Idealize.ShloMosaic Idealize.SL.Sem

variable {F : FTy → Type} [FloatOps F]

/-- The kernel bodies the two programs' pipelines call are one. -/
theorem bodies_eq [Facts] : defs₀ (F := F) = Cert.KernelIdeal.defs₀ := by
  unfold defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- So are the procedures the two programs run with. -/
theorem procedures_eq [Facts] : defs (F := F) = Cert.KernelIdeal.defs :=
  congrArg (Pipeline.defs Cert.KernelIdeal.pcfgs) bodies_eq

/-- And the two programs. -/
theorem programs_eq [Facts] : main (F := F) = Cert.KernelIdeal.main := rfl

/-- The printed program runs, leaves its arguments as they were and every counter at zero. -/
theorem quiescent [Facts] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [procedures_eq, programs_eq]
  exact Cert.KernelIdeal.Body.quiescent (F := F) m ρ

end Cert.Kernel

end
-- ==== Proof.Ideal.Block.lean ====
/-
  What one grid point stores, element by element over the extended reals: row `r` of the output block is the combination
  of the two selected input rows and the constant one, with the three coefficients that the table block holds for `r`.
-/
module

public import proofs.«01_k».proof.Proof.Ideal.Point
public import Idealize.ShloMosaic.Lib.Pointwise

@[expose] public section

set_option maxRecDepth 16384

noncomputable section

namespace Cert.KernelIdeal.Block

open Cert.KernelIdeal Cert.KernelIdeal.Gen Cert.KernelIdeal.Point Idealize.ShloMosaic

/-- Row `r` of the stored block at lane `b`: with `(j, d)` the half of the block and the feature of row `r`, the table's
    first two coefficients for `(j, d)` times the two selected input rows, plus its third. -/
theorem stored_apply (i : grid0.Coords) (x : FVec Ideal S8x16384 .f32) (mt : FVec Ideal S1x3x2x64 .bf16) (r : Fin 128)
    (b : Fin 16384) (p0 p1 : Fin 8) (h0 : p0.val = 2 * pair i) (h1 : p1.val = 2 * pair i + 1)
    (j : Fin 2) (d : Fin 64) (hj : j.val = r.val / 64) (hd : d.val = r.val % 64) :
    stored (F := Ideal) i x mt (ix2 r b)
      = mt (ix4 0 0 j d) * x (ix2 p0 b) + mt (ix4 0 1 j d) * x (ix2 p1 b) + mt (ix4 0 2 j d) := by
  have hlt : pair i < 4 := Nat.mod_lt _ (by decide)
  have hj' : r.val / 64 < 2 := hj ▸ j.isLt
  have hd' : r.val % 64 < 64 := hd ▸ d.isLt
  obtain rfl : j = ⟨r.val / 64, hj'⟩ := Fin.ext hj
  obtain rfl : d = ⟨r.val % 64, hd'⟩ := Fin.ext hd
  unfold stored
  obtain h | h | h | h : pair i = 0 ∨ pair i = 1 ∨ pair i = 2 ∨ pair i = 3 := by omega
  all_goals
    simp only [h, Nat.reduceEqDiff, if_true, if_false]
    unfold_payloads
    pointwise
    rw [Fin.sum_univ_two, Fin.sum_univ_one]
    refine congrArg₂ _ (congrArg₂ _ (congrArg (fun p => _ * x (ix2 p b)) (Fin.ext ?_))
      (congrArg (fun p => _ * x (ix2 p b)) (Fin.ext ?_))) rfl
    · rw [h0, h]; rfl
    · rw [h1, h]; rfl

end Cert.KernelIdeal.Block

end
-- ==== Proof.Ideal.Array.lean ====
/-
  What the pipeline's output array holds after the run, element by element over the extended reals, from the two arrays
  the pipeline reads: the coefficient table and the transposed input. The blocks of 128 rows that the fifty points write
  tile the array; row `q` belongs to point `q / 128`, which combines the input rows `2 (q / 128)` and `2 (q / 128) + 1`.
-/
module

public import proofs.«01_k».proof.Proof.Ideal.Body
public import proofs.«01_k».proof.Proof.Ideal.Block
public import Idealize.ShloMosaic.Lib.Pipeline.ValueKit

@[expose] public section

set_option maxRecDepth 16384

noncomputable section

namespace Cert.KernelIdeal.Array

open Cert.KernelIdeal Cert.KernelIdeal.Gen Cert.KernelIdeal.Point Cert.KernelIdeal.Body Cert.KernelIdeal.Block
open Idealize.ShloMosaic Idealize.ShloMosaic.TcCoe

variable (m : (ℓ : Loc nD τ sig) → Buf (Elt Ideal) ℓ)

/-- The coefficient table and the transposed input, as the pipeline finds them on device `c`. -/
abbrev table (c : Dev nD) : S50x3x2x64.Idx → EReal := V m c main_v16
/-- See `table`. -/
abbrev input (c : Dev nD) : S100x16384.Idx → EReal := V m c main_v0

/-- Output row `q` at lane `b`. -/
def row (T : S50x3x2x64.Idx → EReal) (X : S100x16384.Idx → EReal) (q : Fin 6400) (b : Fin 16384) : EReal :=
  let p : Fin 50 := ⟨q.val / 128, by omega⟩
  let j : Fin 2 := ⟨q.val % 128 / 64, by omega⟩
  let d : Fin 64 := ⟨q.val % 64, by omega⟩
  T (ix4 p 0 j d) * X (ix2 ⟨2 * (q.val / 128), by omega⟩ b) + T (ix4 p 1 j d) * X (ix2 ⟨2 * (q.val / 128) + 1, by omega⟩ b)
    + T (ix4 p 2 j d)

/-- The one grid coordinate of a point is the point. -/
theorem coord : ∀ t : Fin grid0.N, (grid0.coords t 0).val = t.val := by decide +kernel
/-- The windows' block indices at a point. -/
theorem indexes : ∀ t : Fin grid0.N, win0_0.index t = ![t.val, 0, 0, 0] ∧ win0_1.index t = ![t.val / 4, 0]
    ∧ win0_2.index t = ![t.val, 0] := by decide +kernel

/-- The two input rows that a point selects, read off the array. -/
theorem xrows_apply (c : Dev nD) (t : Fin cfg0.N) (e : Fin 2) (p : Fin 8) (hp : p.val = 2 * pair (grid0.coords t) + e.val)
    (q : Fin 100) (hq : q.val = 2 * t.val + e.val) (b : Fin 16384) :
    xrows m c t (ix2 p b) = input m c (ix2 q b) := by
  have hm : win0_1.moved (grid0.coords t) (ix2 p b) = true := by
    refine (win0_1.moved_iff _ _).mpr fun a => ?_
    match a with
    | ⟨0, _⟩ => exact lt_of_lt_of_le (show p.val < 2 * pair (grid0.coords t) + 2 by omega) (rows_inside _)
    | ⟨1, _⟩ => exact lt_of_lt_of_eq b.isLt (lanes_whole _).symm
  unfold xrows Pipeline.Window.fill
  rw [dif_pos hm]
  have hc := coord t
  have hi := (indexes t).2.1
  blk_simp [iblk]
  refine congrArg (V m c main_v0) (funext fun a => Fin.ext ?_)
  match a with
  | ⟨0, _⟩ =>
    blk_simp [hi]
    show t.val / 4 * 8 + p.val = q.val
    have hpair : pair (grid0.coords t) = t.val % 4 := by rw [pair, hc]
    omega
  | ⟨1, _⟩ => blk_simp [hi]

/-- The table block of a point, read off the array. -/
theorem table_apply (c : Dev nD) (t : Fin cfg0.N) (k : Fin 3) (j : Fin 2) (d : Fin 64) (p : Fin 50) (hp : p.val = t.val) :
    (iblk m c 0 t : S1x3x2x64.Idx → EReal) (ix4 0 k j d) = table m c (ix4 p k j d) := by
  have hi := (indexes t).1
  blk_ext [iblk, hi]

/-- What point `t` stores in row `r` of its block is the output's row `128 t + r`. -/
theorem outBlk_apply (c : Dev nD) (t : Fin cfg0.N) (r : Fin 128) (b : Fin 16384) (q : Fin 6400)
    (hq : q.val = t.val * 128 + r.val) : outBlk m c t (ix2 r b) = row (table m c) (input m c) q b := by
  have ht : t.val < 50 := lt_of_lt_of_eq t.isLt N_0
  have hpair : pair (grid0.coords t) < 4 := Nat.mod_lt _ (by decide)
  have hp : q.val / 128 = t.val := by omega
  unfold outBlk row
  rw [stored_apply (grid0.coords t) (xrows m c t) (iblk m c 0 t) r b ⟨2 * pair (grid0.coords t), by omega⟩
    ⟨2 * pair (grid0.coords t) + 1, by omega⟩ rfl rfl ⟨q.val % 128 / 64, by omega⟩ ⟨q.val % 64, by omega⟩
    (by show q.val % 128 / 64 = _; omega) (by show q.val % 64 = _; omega)]
  rw [xrows_apply m c t 0 _ rfl ⟨2 * (q.val / 128), by omega⟩ (by show 2 * (q.val / 128) = _ + 0; rw [hp]; rfl) b,
    xrows_apply m c t 1 _ rfl ⟨2 * (q.val / 128) + 1, by omega⟩ (by show 2 * (q.val / 128) + 1 = _ + 1; rw [hp]) b,
    table_apply m c t 0 _ _ ⟨q.val / 128, by omega⟩ hp, table_apply m c t 1 _ _ ⟨q.val / 128, by omega⟩ hp,
    table_apply m c t 2 _ _ ⟨q.val / 128, by omega⟩ hp]

/-- The output array after the run. -/
theorem arr_eq (c : Dev nD) : (dats m 0 c).arrAt 2 (cfgs 0).N
    = fun y : S6400x16384.Idx => row (table m c) (input m c) (y 0) (y 1) := by
  refine (dats m 0 c).arrAt_eq_of_covers 2 _ (by decide +kernel) fun t hf y => ?_
  blk_simp
  have hi := (indexes t).2.2
  obtain ⟨r, b, rfl⟩ : ∃ (r : Fin 128) (b : Fin 16384), y = ix2 r b := ⟨y 0, y 1, eq_ix2 y⟩
  have e0 : ((((cfg0.win 2).blk t).view.emb (ix2 r b)) 0 : ℕ) = t.val * 128 + r.val := by blk_simp [hi]
  have e1 : ((((cfg0.win 2).blk t).view.emb (ix2 r b)) 1 : ℕ) = b.val := by blk_simp [hi]
  exact (outBlk_apply m c t r b _ e0).trans (congrArg (row (table m c) (input m c) _) (Fin.ext e1.symm))

end Cert.KernelIdeal.Array

end
-- ==== Proof.Ideal.Result.lean ====
/-
  The kernel program's result array, element by element over the extended reals, as a formula in its four arguments: the
  host lines before the pipeline build the coefficient table and transpose the input, those after it reshape the output
  array and move its batch axis to the front.
-/
module

public import proofs.«01_k».proof.Proof.Ideal.Array
public import Idealize.ShloMosaic.Lib.StableHlo.ReadAt
public import Idealize.ShloMosaic.Lib.Claim

@[expose] public section

set_option maxRecDepth 16384

noncomputable section

namespace Cert.KernelIdeal.Result

open Cert.KernelIdeal Cert.KernelIdeal.Gen Cert.KernelIdeal.Body Cert.KernelIdeal.Array
open Idealize.ShloMosaic Idealize.ShloMosaic.TcCoe Idealize.SL.Sem Idealize.ShloMosaic.StableHlo

variable (m : (ℓ : Loc nD τ sig) → Buf (Elt Ideal) ℓ) (ρ : Dev nD → PrngReg)

/-- The arguments on device `c`: the input, the embedding table, the weight column and the bias. -/
abbrev argX (c : Dev nD) : S16384x100.Idx → EReal := m ((c.tc : Thread nD τ).loc main_arg0)
/-- See `argX`. -/
abbrev argE (c : Dev nD) : S100x64.Idx → EReal := m ((c.tc : Thread nD τ).loc main_arg1)
/-- See `argX`. -/
abbrev argW (c : Dev nD) : S64x1.Idx → EReal := m ((c.tc : Thread nD τ).loc main_arg2)
/-- See `argX`. -/
abbrev argB (c : Dev nD) : S64.Idx → EReal := m ((c.tc : Thread nD τ).loc main_arg3)

/-- The transposed input. -/
theorem input_apply (c : Dev nD) (f : Fin 100) (b : Fin 16384) : input m c (ix2 f b) = argX m c (ix2 b f) := by
  unfold input V V0
  after_reads_at

/-- Row 0 of a table block: the weight for the even field, zero for the odd one. -/
theorem table_first (c : Dev nD) (p : Fin 50) (j : Fin 2) (d : Fin 64) :
    table m c (ix4 p 0 j d) = if j.val = 0 then argW m c (ix2 d 0) else 0 := by
  unfold table V V0
  after_reads_at
  after_reads_at
  obtain ⟨j, hj⟩ := j
  match j, hj with
  | 0, _ => rfl
  | 1, _ => exact Ideal.ofBits_zero_f32

/-- Row 1 of a table block: the weight less row 0. -/
theorem table_second (c : Dev nD) (p : Fin 50) (j : Fin 2) (d : Fin 64) :
    table m c (ix4 p 1 j d) = argW m c (ix2 d 0) - if j.val = 0 then argW m c (ix2 d 0) else 0 := by
  unfold table V V0
  after_reads_at
  after_reads_at
  obtain ⟨j, hj⟩ := j
  match j, hj with
  | 0, _ => rfl
  | 1, _ => exact congrArg (fun z : EReal => argW m c (ix2 d 0) - z) Ideal.ofBits_zero_f32

/-- Row 2 of a table block: the embedding of field `2 p + j` plus the bias. -/
theorem table_third (c : Dev nD) (p : Fin 50) (j : Fin 2) (d : Fin 64) :
    table m c (ix4 p 2 j d) = argE m c (ix2 ⟨2 * p.val + j.val, by omega⟩ d) + argB m c (ix1 d) := by
  unfold table V V0
  after_reads_at
  after_reads_at
  have e : (⟨p.val * 2 + j.val, by omega⟩ : Fin 100) = ⟨2 * p.val + j.val, by omega⟩ := Fin.ext (by simp only; omega)
  exact congrArg (fun f => argE m c (ix2 f d) + argB m c (ix1 d)) e

/-- The result array after the lines that follow the pipeline: row `64 f + d` of the output array, batch axis first. -/
theorem tail (c : Dev nD) (b : Fin 16384) (f : Fin 100) (d : Fin 64) :
    (Pipeline.afterTail₀ cfgs (dats m) 0 (V0 m) [hostOps1] c main_v19 : S16384x100x64.Idx → EReal) (ix3 b f d)
      = row (table m c) (input m c) ⟨64 * f.val + d.val, by omega⟩ b := by
  generalize hT : table m c = T
  generalize hX : input m c = X
  unfold Pipeline.afterTail₀
  after_reads_at
  have h := Pipeline.withArrays_arr (cfgs 0).spec launch0.win.arr_inj c (V0 m c)
    (fun w => (dats m 0 c).arrAt w (cfgs 0).N) 2
  have e : (⟨f.val * 64 + d.val, by omega⟩ : Fin 6400) = ⟨64 * f.val + d.val, by omega⟩ := Fin.ext (by simp only; omega)
  refine (congrFun (h.trans (arr_eq m c)) _).trans ?_
  rw [hT, hX]
  exact congrArg (fun q => row T X q b) e

/-- The kernel's result at batch row `b`, field `f` and component `d`: with `f = 2 i + j`, the two inputs of fields `2 i`
and `2 i + 1`, each times its coefficient for `j`, then embedding plus bias. -/
def value (X : S16384x100.Idx → EReal) (E : S100x64.Idx → EReal) (W : S64x1.Idx → EReal) (B : S64.Idx → EReal)
    (b : Fin 16384) (f : Fin 100) (d : Fin 64) : EReal :=
  (if f.val % 2 = 0 then W (ix2 d 0) else 0) * X (ix2 b ⟨2 * (f.val / 2), by omega⟩)
    + (W (ix2 d 0) - if f.val % 2 = 0 then W (ix2 d 0) else 0) * X (ix2 b ⟨2 * (f.val / 2) + 1, by omega⟩)
    + (E (ix2 f d) + B (ix1 d))

/-- The result array holds `value` of the four arguments. -/
theorem result_apply (c : Dev nD) (b : Fin 16384) (f : Fin 100) (d : Fin 64) :
    (Pipeline.afterTail₀ cfgs (dats m) 0 (V0 m) [hostOps1] c main_v19 : S16384x100x64.Idx → EReal) (ix3 b f d)
      = value (argX m c) (argE m c) (argW m c) (argB m c) b f d := by
  have hp : (64 * f.val + d.val) / 128 = f.val / 2 := by omega
  have hj : (64 * f.val + d.val) % 128 / 64 = f.val % 2 := by omega
  have hd : (64 * f.val + d.val) % 64 = d.val := by omega
  rw [tail]
  unfold row value
  simp only [hp, hj, hd]
  rw [table_first, table_second, table_third, input_apply, input_apply]
  simp only [Nat.div_add_mod]

/-- The kernel program runs, its result array holds `value` of the arguments, and the arguments are as they were. -/
theorem run : θ_run defs (onTc (τ := τ) (main (F := Ideal))) ⟨m, fun _ => 0, ρ⟩ (fun r => ∀ c : Dev nD,
      r.2.mem ((c.tc : Thread nD τ).loc main_v19)
        = (fun y : S16384x100x64.Idx => value (argX m c) (argE m c) (argW m c) (argB m c) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, args_kept m r h.1 c⟩) (Body.run m ρ)
  refine ((h.1 c).2 main_v19 (Pipeline.mem_restRefs_of main_v19 (by decide) (by decide))).trans ?_
  funext y
  exact (congrArg _ (eq_ix3 y)).trans (result_apply m c (y 0) (y 1) (y 2))

end Cert.KernelIdeal.Result

end
-- ==== Proof.Reference.lean ====
/-
  The reference program's result array, element by element over the extended reals: embedding, plus input times weight
  plus bias. The reference looks the embedding up by the row numbers 0 … 99, so each row is found in range and is itself.
-/
module

public import proofs.«01_k».proof.Proof.Gen.ReferenceIdeal.Run
public import Idealize.ShloMosaic.Lib.Pointwise
public import Idealize.ShloMosaic.Lib.ReduceAll
public import Idealize.ShloMosaic.Lib.Routing.Ops
public import Idealize.ShloMosaic.Lib.StableHlo.RunHlo
public import Idealize.ShloMosaic.Lib.Quiescent

@[expose] public section

set_option maxRecDepth 16384

noncomputable section

namespace Cert.ReferenceIdeal.Result

open Cert.ReferenceIdeal Cert.ReferenceIdeal.Gen
open Idealize.ShloMosaic Idealize.ShloMosaic.TcCoe Idealize.SL.Sem Idealize.ShloMosaic.StableHlo

/-- The row numbers the lookup reads: 0 … 99, a negative one wrapped round by 100. -/
def rows : IVec S100x1 32 :=
  broadcastInDim S100x1 ![0] bcast_S100_S100x1_0
    (select (cmpi .slt (iotaInDim S100 32 0) (broadcastInDim S100 ![] bcast_S_S100 (constantI S_ 32 0#32)))
      (addi (iotaInDim S100 32 0) (broadcastInDim S100 ![] bcast_S_S100 (constantI S_ 32 100#32))) (iotaInDim S100 32 0))

/-- None is negative: number `f` is `f`. -/
theorem rows_apply (f : Fin 100) : rows (ix2 f 0) = BitVec.ofNat 32 f.val := by
  revert f
  unfold rows
  decide +kernel

/-- The lookup's mask: both range tests, `and`ed over the one column. -/
def inside : IVec S100 1 :=
  Host.reduce IntOp.andi (andi (cmpi .sge rows (broadcastInDim S100x1 ![] bcast_S_S100x1 (constantI S_ 32 0#32)))
      (cmpi .sle rows (broadcastInDim S100x1 ![0, 1] bcast_S1x1_S100x1_0_1
        (broadcastInDim S1x1 ![1] bcast_S1_S1x1_1 (constantI S1 32 99#32)))))
    (constantI S_ 1 1#1) reducesTo_S100x1_S100_d1 h_S_

/-- A row number up to 99 passes both range tests. -/
theorem in_range : ∀ f : Fin 100, IntOp.andi (IntOp.cmpi .sge (BitVec.ofNat 32 f.val) 0#32)
    (IntOp.cmpi .sle (BitVec.ofNat 32 f.val) 99#32) = 1#1 := by decide +kernel

/-- Every row number is in range. -/
theorem inside_apply (f : Fin 100) : inside (ix1 f) = 1#1 := by
  refine Host.reduce_andi_one _ _ _ _ _ rfl fun i => ?_
  obtain ⟨p, q, rfl⟩ : ∃ (p : Fin 100) (q : Fin 1), i = ix2 p q := ⟨i 0, i 1, eq_ix2 i⟩
  obtain rfl : q = 0 := Subsingleton.elim _ _
  have h := in_range p
  rw [← rows_apply p] at h
  exact h

/-- The looked-up table. -/
def looked (E : S100x64.Idx → EReal) : S100x64.Idx → EReal :=
  select (broadcastInDim S100x64 ![0] bcast_S100_S100x64_0 inside)
    (Host.gather gather_S100x64_S100x1_S100x64_1_0_n_n_0_1_164 E rows)
    (broadcastInDim S100x64 ![] bcast_S_S100x64 (constant (F := Ideal) S_ .f32 0x7FC00000#32))

/-- The lookup of the rows in order is the table. -/
theorem looked_apply (E : S100x64.Idx → EReal) (f : Fin 100) (d : Fin 64) : looked E (ix2 f d) = E (ix2 f d) := by
  have hg := Routing.gather_row gather_S100x64_S100x1_S100x64_1_0_n_n_0_1_164 rfl rfl rfl rfl rfl E rows f d f
    (rows_apply f) (by decide)
  have hs : looked E (ix2 f d) = Scalar.select (inside (ix1 f))
      (Host.gather gather_S100x64_S100x1_S100x64_1_0_n_n_0_1_164 E rows (ix2 f d)) (Ideal.ofBits .f32 0x7FC00000#32) := by
    unfold looked
    pointwise
  rw [hs, inside_apply]
  exact hg

/-- The reference's result at batch row `b`, field `f` and component `d`. -/
def value (X : S16384x100.Idx → EReal) (E : S100x64.Idx → EReal) (W : S64x1.Idx → EReal) (B : S64.Idx → EReal)
    (b : Fin 16384) (f : Fin 100) (d : Fin 64) : EReal :=
  E (ix2 f d) + (X (ix2 b f) * W (ix2 d 0) + B (ix1 d))

/-- The reference's last lines: the looked-up table, plus the projection plus the bias. -/
theorem sum_apply (X : S16384x100.Idx → EReal) (L : S100x64.Idx → EReal) (W : S64x1.Idx → EReal) (B : S64.Idx → EReal)
    (b : Fin 16384) (f : Fin 100) (d : Fin 64) :
    (addf (F := Ideal) (φ := .f32) (broadcastInDim S16384x100x64 ![0, 1, 2] bcast_S1x100x64_S16384x100x64_0_1_2
        (broadcastInDim S1x100x64 ![1, 2] bcast_S100x64_S1x100x64_1_2 L))
      (addf (Host.dotGeneral (F := Ideal) (φ₁ := .f32) (φ₂ := .f32) dot_S16384x100x1_S1x64_S16384x100x64_2_0_01_1_n_n none
          (broadcastInDim S16384x100x1 ![0, 1] bcast_S16384x100_S16384x100x1_0_1 X)
          (transpose S1x64 [1, 0] W transposes_S64x1_S1x64_1_0))
        (broadcastInDim S16384x100x64 ![0, 1, 2] bcast_S1x1x64_S16384x100x64_0_1_2
          (broadcastInDim S1x1x64 ![2] bcast_S64_S1x1x64_2 B)))) (ix3 b f d) = value X L W B b f d := by
  unfold value
  pointwise
  exact congrArg (fun z : EReal => L (ix2 f d) + (z + B (ix1 d))) (Fintype.sum_unique _)

variable (m : (ℓ : Loc nD τ sig) → Buf (Elt Ideal) ℓ) (ρ : Dev nD → PrngReg)

/-- The reference program runs, its result array holds `value` of the arguments, and the arguments are as they were. -/
theorem run : θ_run defs (onTc (τ := τ) (main (F := Ideal))) ⟨m, fun _ => 0, ρ⟩ (fun r => ∀ c : Dev nD,
      r.2.mem ((c.tc : Thread nD τ).loc main_v10)
        = (fun y : S16384x100x64.Idx => value (m ((c.tc : Thread nD τ).loc main_arg0)) (m ((c.tc : Thread nD τ).loc main_arg1))
            (m ((c.tc : Thread nD τ).loc main_arg2)) (m ((c.tc : Thread nD τ).loc main_arg3)) (y 0) (y 1) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨(h c).1.trans ?_, (h c).2⟩) (Value.run m ρ)
  funext y
  refine (congrArg _ (eq_ix3 y)).trans ((sum_apply _ (looked (m ((c.tc : Thread nD τ).loc main_arg1))) _ _ (y 0) (y 1) (y 2)).trans ?_)
  exact congrArg (fun z : EReal => z + _) (looked_apply _ (y 1) (y 2))

/-- The reference program runs, leaves its arguments as they were, and every counter at zero: it has no counters. -/
theorem quiescent : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Value.run m ρ)

end Cert.ReferenceIdeal.Result

end
-- ==== Proof.Agree.lean ====
/-
  The two formulas agree where every weight is finite: of the kernel's two coefficients one is the weight and the other
  is zero, the second `w - w` for an even field and the first a stored zero for an odd one; so each result is the field's
  own input times the weight, plus embedding plus bias.
-/
module

public import proofs.«01_k».proof.Proof.Ideal.Result
public import proofs.«01_k».proof.Proof.Reference
public import proofs.«01_k».proof.Pre_w_finite

@[expose] public section

noncomputable section

namespace Cert.Agree

open Idealize.ShloMosaic

/-- The precondition's one side condition. -/
theorem facts : Cert.Pre_w_finite.Facts := ⟨by decide⟩

/-- The single-precision word of `+∞` is the top element. -/
theorem top_word : Ideal.ofBits .f32 0x7F800000#32 = ⊤ := by simp [Ideal.ofBits, Ideal.ieee]

/-- The precondition, at one weight: the weight is neither infinity. -/
theorem finite [hf : Cert.Pre_w_finite.Facts] (X : Pre_w_finite.S16384x100.Idx → EReal) (E : Pre_w_finite.S100x64.Idx → EReal)
    (W : Pre_w_finite.S64x1.Idx → EReal) (B : Pre_w_finite.S64.Idx → EReal) (y : Pre_w_finite.S64x1.Idx)
    (h : Pre_w_finite.fn (F := Ideal) X E W B y = 1#1) : W y ≠ ⊤ ∧ W y ≠ ⊥ := by
  have h' : Ideal.cmp .olt (max (W y) (-W y)) (Ideal.ofBits .f32 0x7F800000#32) = 1#1 := h
  rw [top_word] at h'
  have hlt : max (W y) (-W y) < ⊤ := by
    by_contra hn
    simp [Ideal.cmp, hn] at h'
  refine ⟨fun e => ?_, fun e => ?_⟩ <;> simp [e] at hlt

/-- The kernel's formula and the reference's, at a finite weight. -/
theorem values (X : KernelIdeal.S16384x100.Idx → EReal) (E : KernelIdeal.S100x64.Idx → EReal)
    (W : KernelIdeal.S64x1.Idx → EReal) (B : KernelIdeal.S64.Idx → EReal) (b : Fin 16384) (f : Fin 100) (d : Fin 64)
    (ht : W (ix2 d 0) ≠ ⊤) (hb : W (ix2 d 0) ≠ ⊥) :
    KernelIdeal.Result.value X E W B b f d = ReferenceIdeal.Result.value X E W B b f d := by
  unfold KernelIdeal.Result.value ReferenceIdeal.Result.value
  rcases Nat.mod_two_eq_zero_or_one f.val with h | h
  · have e : (⟨2 * (f.val / 2), by omega⟩ : Fin 100) = f := Fin.ext (by simp only; omega)
    rw [if_pos h, e, EReal.sub_self ht hb, zero_mul, add_zero, mul_comm, ← add_assoc, ← add_assoc, add_comm (_ * _) (E _)]
  · have e : (⟨2 * (f.val / 2) + 1, by omega⟩ : Fin 100) = f := Fin.ext (by simp only; omega)
    rw [if_neg (by omega), e, zero_mul, zero_add, sub_zero, mul_comm, ← add_assoc, ← add_assoc, add_comm (_ * _) (E _)]

end Cert.Agree

end
-- ==== Proof.lean ====
/-
  The five claims, put together: the printed kernel program and the two programs over the extended reals run and leave
  every counter at zero; the idealized kernel is the printed one with nothing rewritten; and wherever every weight is
  finite the kernel's result array equals the reference's, element by element.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Transfer
public import proofs.«01_k».proof.Proof.Ideal.Result
public import proofs.«01_k».proof.Proof.Reference
public import proofs.«01_k».proof.Proof.Agree

@[expose] public section

noncomputable section

namespace Cert.Proof

open Idealize.ShloMosaic Idealize.SL.Sem

/-- The kernel's result equals the reference's wherever every weight is finite. -/
theorem algebraic :
    Cert.algebraic_KernelIdeal_ReferenceIdeal_pre_w_finite (hKernelIdeal := Cert.KernelIdeal.Gen.facts)
      (hReferenceIdeal := Cert.ReferenceIdeal.Gen.facts) (hPre_w_finite := Cert.Agree.facts) := by
  intro m g m' g' hpre hargs
  refine ⟨_, Cert.KernelIdeal.Result.run m g, ?_⟩
  refine (θ_run Cert.ReferenceIdeal.defs _ _).mono (fun r h c => ⟨(h c).1.trans ?_, (h c).2⟩)
    (Cert.ReferenceIdeal.Result.run m' g')
  obtain ⟨h0, h1, h2, h3⟩ := hargs c
  rw [h0, h1, h2, h3]
  funext y
  have hw := Cert.Agree.finite (hf := Cert.Agree.facts) _ _ _ _ (ix2 (y 2) 0) (congrFun (hpre c) _)
  exact (Cert.Agree.values _ _ _ _ (y 0) (y 1) (y 2) hw.1 hw.2).symm

/-- Everything claimed. -/
theorem claim : Cert.Claim :=
  ⟨Cert.Kernel.Gen.facts, Cert.KernelIdeal.Gen.facts, Cert.ReferenceIdeal.Gen.facts, Cert.Agree.facts,
    fun m g _ => Cert.Kernel.quiescent m g,
    fun m g _ => Cert.KernelIdeal.Body.quiescent m g,
    fun m g _ => Cert.KernelIdeal.Body.quiescent m g,
    fun m g _ => Cert.ReferenceIdeal.Result.quiescent m g,
    fun m g _ => Cert.ReferenceIdeal.Result.quiescent m g,
    trivial,
    algebraic⟩

end Cert.Proof

end
